-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v3) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_v13) = v1 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32768x1 : Shape := ⟨2, ![32768, 1]⟩
abbrev S32768 : Shape := ⟨1, ![32768]⟩
abbrev S2048 : Shape := ⟨1, ![2048]⟩
abbrev S_ : Shape := ⟨0, ![]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S32768x1, .f32⟩
  | .hbm, ⟨1, _⟩ => ⟨S32768, .f32⟩
  | .hbm, ⟨2, _⟩ => ⟨S32768, .f32⟩
  | .hbm, ⟨3, _⟩ => ⟨S32768, .i32⟩
  | .hbm, ⟨4, _⟩ => ⟨S32768x1, .f32⟩
  | .hbm, ⟨5, _⟩ => ⟨S32768x1, .i32⟩
  | .local .scVector .vmem, ⟨0, _⟩ => ⟨S2048, .f32⟩
  | .local .scVector .vmem, ⟨1, _⟩ => ⟨S2048, .f32⟩
  | .local .scVector .vmem, ⟨2, _⟩ => ⟨S2048, .i32⟩
  | _, _ => ⟨S32768x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c2048_i32 : BitVec 32 := 2048#32
  let v0 : BitVec 32 := Scalar.muli arg1 c2048_i32
  ![v0.toNat]
@[reducible] def k0_t1_loop : Scf.Loop 32 :=
  let c0_i32 : BitVec 32 := 0#32
  let c128_i32 : BitVec 32 := 128#32
  let v2 : BitVec 32 := Scalar.addi c0_i32 c128_i32
  let c1_i32 : BitVec 32 := 1#32
  ⟨c0_i32, v2, c1_i32⟩
def k0_off2 (k0_t1 : Fin k0_t1_loop.trips) : Fin 1 → Nat :=
  let c0_i32_1 : BitVec 32 := 0#32
  let c0_i32 : BitVec 32 := 0#32
  let c1_i32 : BitVec 32 := 1#32
  let arg8 : BitVec 32 := Scf.iv c0_i32 c1_i32 k0_t1
  let c16_i32 : BitVec 32 := 16#32
  let v3 : BitVec 32 := Scalar.muli arg8 c16_i32
  let v4 : BitVec 32 := Scalar.addi c0_i32_1 v3
  let v5 : Index := Scalar.indexCast v4
  ![v5.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32768x1 : Shape := ⟨2, ![32768, 1]⟩
abbrev S32768 : Shape := ⟨1, ![32768]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S32768x1, .f32⟩
  | .hbm, ⟨1, _⟩ => ⟨S32768, .f32⟩
  | .hbm, ⟨2, _⟩ => ⟨S_, .f32⟩
  | .hbm, ⟨3, _⟩ => ⟨S32768, .f32⟩
  | .hbm, ⟨4, _⟩ => ⟨S32768, .i1⟩
  | .hbm, ⟨5, _⟩ => ⟨S_, .f32⟩
  | .hbm, ⟨6, _⟩ => ⟨S32768, .f32⟩
  | .hbm, ⟨7, _⟩ => ⟨S32768, .i1⟩
  | .hbm, ⟨8, _⟩ => ⟨S32768, .i1⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S_, .i32⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S_, .i1⟩
  | .hbm, ⟨37, _⟩ => ⟨S32768, .i1⟩
  | .hbm, ⟨38, _⟩ => ⟨S32768, .i1⟩
  | .hbm, ⟨39, _⟩ => ⟨S32768, .i1⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S_, .f32⟩
  | .hbm, ⟨46, _⟩ => ⟨S32768x1, .f32⟩
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call2_v0 : Ref sig .tc := ⟨.hbm, 22, rfl⟩
abbrev main_call2_c : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_c_1 : Ref sig .tc := ⟨.hbm, 29, rfl⟩
abbrev main_call2_v5 : Ref sig .tc := ⟨.hbm, 30, rfl⟩
abbrev main_call2_v6 : Ref sig .tc := ⟨.hbm, 31, rfl⟩
abbrev main_call2_c_2 : Ref sig .tc := ⟨.hbm, 32, rfl⟩
abbrev main_call2_v7 : Ref sig .tc := ⟨.hbm, 33, rfl⟩
abbrev main_call2_v8 : Ref sig .tc := ⟨.hbm, 34, rfl⟩
abbrev main_call2_c_3 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_4 : Ref sig .tc := ⟨.hbm, 45, rfl⟩
abbrev main_v14 : Ref sig .tc := ⟨.hbm, 46, rfl⟩

abbrev nD : Nat := 1
abbrev τ : Topo := Topo.v7x

variable {F : FTy → Type} [FloatOps F]
-- ==== Proof.Tile.lean ====
/-
  One tile's run of the routing kernel, carrying the values. The tile at coordinates `L` copies its block of 2048 inputs
  into its own memory, walks it sixteen lanes at a time — each trip writes sixteen ids and sixteen weights into the two
  output buffers —, and copies the two buffers to its blocks of the two results. What the run leaves: every id of the
  block is `idOf` of the input at its place, every weight is one. It holds at every float instance `F`: the comparisons
  and the conversion are read as the instance gives them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.VecWindow
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What one element becomes -/

section Element

variable [FloatOps F]

/-- The weight of every element: the float word of 1.0. -/
def one : F .f32 := Scalar.ofBits .f32 0x3F800000#32

/-- The id of an input: 1 where it equals 2.0, else 0 where it equals 1.0, else the low six bits of its integer part. -/
def idOf (x : F .f32) : BitVec 32 :=
  Scalar.select (FloatOps.cmpf .oeq x (Scalar.ofBits .f32 0x40000000#32)) 1#32
    (Scalar.select (FloatOps.cmpf .oeq x (Scalar.ofBits .f32 0x3F800000#32)) 0#32
      (IntOp.andi (FloatOps.fptosi 32 x) 63#32))

/-- Sixteen ids at once are `idOf` lane by lane. -/
theorem pay1_apply (v : Vec F S16 .f32) (j : S16.Idx) : k0_pay1 v j = idOf (v j) := by
  unfold k0_pay1 idOf
  simp only [shapeCast_self]
  rfl

/-- Sixteen weights at once are one in every lane. -/
theorem pay2_apply (j : S16.Idx) : k0_pay2 (F := F) j = one := by
  unfold k0_pay2 one
  simp only [shapeCast_self]
  rfl

end Element

/-! ## The resource algebra: the handshakes' rounds and the transfers' counters -/

abbrev UH : Type := URounds (GSem nD τ sig) ℕ
abbrev UU : Type := UH × Counters

local notation "𝕄" => MT nD τ sig (HIx 1) (Elt F) ℕ UU ℕ

local notation "xM" => (Memref.whole Cert.KernelIdeal.main_v0_scv : Memref Cert.KernelIdeal.sig Kind.scVector Space.hbm Cert.KernelIdeal.S32768 EltTy.f32)
local notation "wM" => (Memref.whole Cert.KernelIdeal.main_v1_0_scv : Memref Cert.KernelIdeal.sig Kind.scVector Space.hbm Cert.KernelIdeal.S32768 EltTy.f32)
local notation "kM" => (Memref.whole Cert.KernelIdeal.main_v1_1_scv : Memref Cert.KernelIdeal.sig Kind.scVector Space.hbm Cert.KernelIdeal.S32768 EltTy.i32)
local notation "xB" => (Memref.whole Cert.KernelIdeal.cc0_scratch0 : Memref Cert.KernelIdeal.sig Kind.scVector Space.vmem Cert.KernelIdeal.S2048 EltTy.f32)
local notation "wB" => (Memref.whole Cert.KernelIdeal.cc0_scratch1 : Memref Cert.KernelIdeal.sig Kind.scVector Space.vmem Cert.KernelIdeal.S2048 EltTy.f32)
local notation "kB" => (Memref.whole Cert.KernelIdeal.cc0_scratch2 : Memref Cert.KernelIdeal.sig Kind.scVector Space.vmem Cert.KernelIdeal.S2048 EltTy.i32)

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev VT (d : Dev nD) (L : grid0.Coords) : Thread nD τ := V d (cV L) (jV L)

/-- The tile's block of an array of 32768: 2048 elements from `2048 · L 1`, as the kernel cuts it. -/
abbrev blk (L : grid0.Coords) : Rect S32768 := Rect.unit (s := S32768) (k0_off1 L) S2048.size (k0_off1_inb L)
abbrev xBlk (L : grid0.Coords) : Memref sig .scVector .hbm S2048 .f32 := (xM).slice (blk L) (fun _ => rfl)
abbrev wBlk (L : grid0.Coords) : Memref sig .scVector .hbm S2048 .f32 := (wM).slice (blk L) (fun _ => rfl)
abbrev kBlk (L : grid0.Coords) : Memref sig .scVector .hbm S2048 .i32 := (kM).slice (blk L) (fun _ => rfl)

/-- The tile's three transfer cells at zero. -/
abbrev cells0 (d : Dev nD) (L : grid0.Coords) : sProp 𝕄 :=
  iprop(semVal (VT d L, SemLoc.dma cc0_scoped0.sem) 0 ∗ semVal (VT d L, SemLoc.dma cc0_scoped1.sem) 0
    ∗ semVal (VT d L, SemLoc.dma cc0_scoped2.sem) 0)

/-! ## The loop -/

section Loop

variable [FloatOps F]

/-- A trip's sixteen ids land over what the buffer held: if the first `16 · k` ids were right, the first `16 · (k + 1)` are. -/
theorem ids_step (X : S2048.Idx → F .f32) (f : Buf (Elt F) ((VT d L).loc cc0_scratch0)) (hf : ∀ j, (xB).view.read (Elt F) f j = X j)
    (g : Buf (Elt F) ((VT d L).loc cc0_scratch2)) (k : Fin k0_t1_loop.trips)
    (hg : ∀ j : S2048.Idx, (j 0).val < 16 * k.val → (kB).view.read (Elt F) g j = idOf (X j)) :
    ∀ j : S2048.Idx, (j 0).val < 16 * (k.val + 1) →
      (kB).view.read (Elt F) ((kB).view.writes (Elt F) g
        [⟨Rect.unit (s := S2048) (k0_off2 k) S16.size (k0_off2_inb k),
          k0_pay1 ((xB).view.readAt (Elt F) (Rect.unit (s := S2048) (k0_off2 k) S16.size (k0_off2_inb k)).toLoadRect f)⟩]) j
        = idOf (X j) := by
  intro j hj
  rw [View.read_writes_cons_unit _ _ _ _ _ j (k0_off2_eq k)]
  split_ifs with h
  · rw [pay1_apply, View.readAt_unit _ _ _ (k0_off2_eq k) (k0_off2_eq k ▸ k0_off2_inb k)]
    congr 1
    refine (hf _).trans (congrArg X (funext fun a => Fin.ext ?_))
    have := h a
    show (![16 * k.val] : Fin 1 → ℕ) a + 1 * (Rect.unitLocal (s := S2048) (off := ![16 * k.val]) (size := S16.size) j h a).val = (j a).val
    rw [Rect.unitLocal_val]
    omega
  · rw [View.writes_nil]
    refine hg j ?_
    by_contra hc
    refine h fun a => ?_
    match a with
    | 0 => exact ⟨by show 16 * k.val ≤ _; omega, by show _ < 16 * k.val + 16; omega⟩

/-- The weights likewise. -/
theorem weights_step (g : Buf (Elt F) ((VT d L).loc cc0_scratch1)) (k : Fin k0_t1_loop.trips)
    (hg : ∀ j : S2048.Idx, (j 0).val < 16 * k.val → (wB).view.read (Elt F) g j = (one : F .f32)) :
    ∀ j : S2048.Idx, (j 0).val < 16 * (k.val + 1) →
      (wB).view.read (Elt F) ((wB).view.writes (Elt F) g
        [⟨Rect.unit (s := S2048) (k0_off2 k) S16.size (k0_off2_inb k), k0_pay2 (F := F)⟩]) j = (one : F .f32) := by
  intro j hj
  rw [View.read_writes_cons_unit _ _ _ _ _ j (k0_off2_eq k)]
  split_ifs with h
  · exact pay2_apply _
  · rw [View.writes_nil]
    refine hg j ?_
    by_contra hc
    refine h fun a => ?_
    match a with
    | 0 => exact ⟨by show 16 * k.val ≤ _; omega, by show _ < 16 * k.val + 16; omega⟩

omit [FloatOps F] in
/-- The loop's 128 trips of sixteen reach every place of a block. -/
theorem lt_trips (j : S2048.Idx) : (j 0).val < 16 * Scf.trips k0_t1_loop.lb k0_t1_loop.ub k0_t1_loop.st := by
  have h : Scf.trips k0_t1_loop.lb k0_t1_loop.ub k0_t1_loop.st = 128 := by decide +kernel
  have hj : (j 0).val < 2048 := (j 0).isLt
  rw [h]; omega

/-- Before trip `k`: the input buffer holds the block `X`; the first `16 · k` weights and ids are right. -/
def inv (X : S2048.Idx → F .f32) (k : Nat) (_ : PUnit) : sProp 𝕄 :=
  iprop((∃ f, ⌜∀ j, (xB).view.read (Elt F) f j = X j⌝ ∗ ((xB).view.loc (VT d L) ↦[(xB).view.set]{fullShare} f))
    ∗ (∃ w, ⌜∀ j : S2048.Idx, (j 0).val < 16 * k → (wB).view.read (Elt F) w j = (one : F .f32)⌝
        ∗ ((wB).view.loc (VT d L) ↦[(wB).view.set]{fullShare} w))
    ∗ (∃ g, ⌜∀ j : S2048.Idx, (j 0).val < 16 * k → (kB).view.read (Elt F) g j = idOf (X j)⌝
        ∗ ((kB).view.loc (VT d L) ↦[(kB).view.set]{fullShare} g)))

end Loop

/-! ## The run -/

variable [FloatOps F]

/-- The tile's body, from the pieces dealt it, in the kernel's own spelling. -/
theorem tile_run (O : CellTallies nD τ sig (HIx 1)) (W : Waits sig (HIx 1))
    (x : Buf (Elt F) ((xBlk L).view.loc (VT d L))) (w : Buf (Elt F) ((wBlk L).view.loc (VT d L))) (i : Buf (Elt F) ((kBlk L).view.loc (VT d L)))
    (x0 : Buf (Elt F) ((xB).view.loc (VT d L))) (w0 : Buf (Elt F) ((wB).view.loc (VT d L))) (i0 : Buf (Elt F) ((kB).view.loc (VT d L))) :
    (iprop(Transfers.MayWaits (VT d L) (default : HIx 1) O
        ∗ ((xBlk L).view.loc (VT d L) ↦[(xBlk L).view.set]{fullShare} x)
        ∗ ((wBlk L).view.loc (VT d L) ↦[(wBlk L).view.set]{fullShare} w)
        ∗ ((kBlk L).view.loc (VT d L) ↦[(kBlk L).view.set]{fullShare} i)
        ∗ ((xB).view.loc (VT d L) ↦[(xB).view.set]{fullShare} x0)
        ∗ ((wB).view.loc (VT d L) ↦[(wB).view.set]{fullShare} w0)
        ∗ ((kB).view.loc (VT d L) ↦[(kB).view.set]{fullShare} i0)
        ∗ cells0 d L
        ∗ owes (VT d L) O W) : sProp 𝕄)
      ⊢ wp frame (wpE (defs₀ (F := F)) Variants.none (VT d L) none) Set.univ
          (cc0__route L xM (Memref.isWhole_whole _) wM (Memref.isWhole_whole _) kM (Memref.isWhole_whole _)
            xB (Memref.isWhole_whole _) wB (Memref.isWhole_whole _) kB (Memref.isWhole_whole _) cc0_scoped0 cc0_scoped1 cc0_scoped2)
          fun _ => iprop(((xBlk L).view.loc (VT d L) ↦[(xBlk L).view.set]{fullShare} x)
            ∗ (∃ f, ⌜∀ j, (wBlk L).view.read (Elt F) f j = (one : F .f32)⌝ ∗ ((wBlk L).view.loc (VT d L) ↦[(wBlk L).view.set]{fullShare} f))
            ∗ (∃ f, ⌜∀ j, (kBlk L).view.read (Elt F) f j = idOf ((xBlk L).view.read (Elt F) x j)⌝
                ∗ ((kBlk L).view.loc (VT d L) ↦[(kBlk L).view.set]{fullShare} f))
            ∗ (∃ g, (xB).view.loc (VT d L) ↦[(xB).view.set]{fullShare} g)
            ∗ (∃ g, (wB).view.loc (VT d L) ↦[(wB).view.set]{fullShare} g)
            ∗ (∃ g, (kB).view.loc (VT d L) ↦[(kB).view.set]{fullShare} g)
            ∗ cells0 d L
            ∗ ∃ W', owes (VT d L) O W') := by
  rw [cc0__route_eq_skeleton]; unfold cc0__route_skel
  iintro ⟨#Hmw, Hx, Hw, Hk, Hxb, Hwb, Hkb, ⟨Hc0, Hc1, Hc2⟩, HO⟩
  sl_exec
  sl_for (inv d L (fun j => (xBlk L).view.read (Elt F) x j)) $$ [Hxb Hwb Hkb]
  case region =>
    intro k _
    unfold inv
    iintro ⟨⟨%f, %hf, Hxb⟩, ⟨%w, %hw, Hwb⟩, ⟨%g, %hg, Hkb⟩⟩
    sl_exec
    sl_step
    isplitl [Hxb]
    · iexists f; isplitr
      · ipureintro; exact hf
      · iexact Hxb
    isplitl [Hwb]
    · iexists _; isplitr
      rotate_left
      · iexact Hwb
      · ipureintro; exact weights_step d L w k hw
    · iexists _; isplitr
      rotate_left
      · iexact Hkb
      · ipureintro; exact ids_step d L _ f hf g k hg
  · unfold inv
    isplitl [Hxb]
    · iexists _; isplitr
      rotate_left
      · iexact Hxb
      · ipureintro; intro j; rw [View.read_writes_whole]; rfl
    isplitl [Hwb]
    · iexists w0; isplitr
      · ipureintro; intro j hj; omega
      · iexact Hwb
    · iexists i0; isplitr
      · ipureintro; intro j hj; omega
      · iexact Hkb
  iintro %_ HI
  unfold inv
  icases HI with ⟨⟨%f, %hf, Hxb⟩, ⟨%w, %hw, Hwb⟩, ⟨%g, %hg, Hkb⟩⟩
  sl_exec
  sl_step
  isplitl [Hx]; · iexact Hx
  isplitl [Hw]
  · iexists _; isplitr
    rotate_left
    · iexact Hw
    · ipureintro; intro j
      rw [View.read_writes_whole]
      exact hw j (lt_trips j)
  isplitl [Hk]
  · iexists _; isplitr
    rotate_left
    · iexact Hk
    · ipureintro; intro j
      rw [View.read_writes_whole]
      exact hg j (lt_trips j)
  isplitl [Hxb]; · iexists _; iexact Hxb
  isplitl [Hwb]; · iexists _; iexact Hwb
  isplitl [Hkb]; · iexists _; iexact Hkb
  isplitl [Hc0 Hc1 Hc2]
  · isplitl [Hc0]; · iexact Hc0
    isplitl [Hc1]; · iexact Hc1
    iexact Hc2
  iexists _; iexact HO

end Tile

end Cert.Proof.Route

end
-- ==== Proof.Launch.lean ====
/-
  The routing kernel's launch and the whole program's run. The call takes the flat input and the two flat results whole
  and hands each tile its sixteenth of the three; each tile hands back its block of the weights at one and its block of
  the ids at `idOf` of the input (Tile.lean), so the call hands back the two arrays at one function each. Around the call
  the program reshapes: the input to a flat array, the two flat results to columns. `run_main`: every weakly fair
  execution ends with the two results at those values, the argument unchanged, every semaphore at zero.
-/
module

public import proofs.«01_k».proof.Proof.Tile

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := (Variants.none).lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

local notation "xM" => (Memref.whole Cert.KernelIdeal.main_v0_scv : Memref Cert.KernelIdeal.sig Kind.scVector Space.hbm Cert.KernelIdeal.S32768 EltTy.f32)
local notation "wM" => (Memref.whole Cert.KernelIdeal.main_v1_0_scv : Memref Cert.KernelIdeal.sig Kind.scVector Space.hbm Cert.KernelIdeal.S32768 EltTy.f32)
local notation "kM" => (Memref.whole Cert.KernelIdeal.main_v1_1_scv : Memref Cert.KernelIdeal.sig Kind.scVector Space.hbm Cert.KernelIdeal.S32768 EltTy.i32)
local notation "xB" => (Memref.whole Cert.KernelIdeal.cc0_scratch0 : Memref Cert.KernelIdeal.sig Kind.scVector Space.vmem Cert.KernelIdeal.S2048 EltTy.f32)
local notation "wB" => (Memref.whole Cert.KernelIdeal.cc0_scratch1 : Memref Cert.KernelIdeal.sig Kind.scVector Space.vmem Cert.KernelIdeal.S2048 EltTy.f32)
local notation "kB" => (Memref.whole Cert.KernelIdeal.cc0_scratch2 : Memref Cert.KernelIdeal.sig Kind.scVector Space.vmem Cert.KernelIdeal.S2048 EltTy.i32)

/-! ## The arrays and their values -/

variable (m : (ℓ : Loc nD τ sig) → Buf (Elt F) ℓ) (ρ : Dev nD → PrngReg)

abbrev aLoc (d : Dev nD) : Loc nD τ sig := (SparseCore.T d).loc main_arg0
abbrev xLoc (d : Dev nD) : Loc nD τ sig := (SparseCore.T d).loc main_v0
abbrev wLoc (d : Dev nD) : Loc nD τ sig := (SparseCore.T d).loc main_v1_0
abbrev kLoc (d : Dev nD) : Loc nD τ sig := (SparseCore.T d).loc main_v1_1
abbrev oLoc (d : Dev nD) : Loc nD τ sig := (SparseCore.T d).loc main_v2
abbrev pLoc (d : Dev nD) : Loc nD τ sig := (SparseCore.T d).loc main_v3

section Values

variable [FloatOps F]

/-- The argument as the kernel reads it: its column as a flat array. -/
def flat (d : Dev nD) : Buf (Elt F) (xLoc d) := shapeCast S32768 (m (aLoc d)) shapeCasts_S32768x1_S32768
/-- The flat weights: one everywhere. -/
def weights (d : Dev nD) : Buf (Elt F) (wLoc d) := fun _ => (one : F .f32)
/-- The flat ids: `idOf` of the flat input, element by element. -/
def ids (d : Dev nD) : Buf (Elt F) (kLoc d) := fun j => idOf (flat m d j)
/-- The two results: the flat arrays as columns. -/
def weightsCol (d : Dev nD) : Buf (Elt F) (oLoc d) := shapeCast S32768x1 (weights d) shapeCasts_S32768_S32768x1
def idsCol (d : Dev nD) : Buf (Elt F) (pLoc d) := shapeCast S32768x1 (ids m d) shapeCasts_S32768_S32768x1

end Values

/-! ## The sixteen blocks -/

/-- Block `i` of a flat array: 2048 elements from `2048 · i`. -/
theorem div16 : 16 ∣ S32768.size 0 := ⟨2048, rfl⟩
abbrev part (i : Fin 16) : Rect S32768 := Rect.part (s := S32768) (a₀ := 0) div16 i
abbrev pset (i : Fin 16) : Finset S32768.Idx := (part i).set

theorem pset_disjoint : ∀ i ∈ (Finset.univ : Finset (Fin 16)), ∀ j ∈ (Finset.univ : Finset (Fin 16)), i ≠ j → Disjoint (pset i) (pset j) :=
  fun _ _ _ _ h => Rect.part_disjoint div16 h
theorem pset_cover : (Finset.univ : Finset (Fin 16)).biUnion pset = Finset.univ := Rect.biUnion_part div16

/-- A flat array held whole is its sixteen blocks held. -/
theorem whole_blocks (ℓ : Loc nD τ sig) (hs : Idx ℓ = S32768.Idx) (S : Fin 16 → Finset (Idx ℓ))
    (hd : ∀ i ∈ (Finset.univ : Finset (Fin 16)), ∀ j ∈ (Finset.univ : Finset (Fin 16)), i ≠ j → Disjoint (S i) (S j))
    (hc : (Finset.univ : Finset (Fin 16)).biUnion S = Finset.univ) (f : Buf (Elt F) ℓ) :
    (ℓ ↦{fullShare} f : sProp 𝕄) = bigSep Finset.univ fun i : Fin 16 => ℓ ↦[S i]{fullShare} f := by
  rw [← pointsTo_biUnion Finset.univ (ℓ := ℓ) S hd, hc]; try rfl

theorem x_blocks (d : Dev nD) (f : Buf (Elt F) (xLoc d)) :
    (xLoc d ↦{fullShare} f : sProp 𝕄) = bigSep Finset.univ fun i : Fin 16 => xLoc d ↦[pset i]{fullShare} f :=
  whole_blocks (xLoc d) rfl pset pset_disjoint pset_cover f
theorem w_blocks (d : Dev nD) (f : Buf (Elt F) (wLoc d)) :
    (wLoc d ↦{fullShare} f : sProp 𝕄) = bigSep Finset.univ fun i : Fin 16 => wLoc d ↦[pset i]{fullShare} f :=
  whole_blocks (wLoc d) rfl pset pset_disjoint pset_cover f
theorem k_blocks (d : Dev nD) (f : Buf (Elt F) (kLoc d)) :
    (kLoc d ↦{fullShare} f : sProp 𝕄) = bigSep Finset.univ fun i : Fin 16 => kLoc d ↦[pset i]{fullShare} f :=
  whole_blocks (kLoc d) rfl pset pset_disjoint pset_cover f

/-! ## What the handshakes carry -/

/-- The three flat arrays whole, the results at given contents. -/
abbrev whole3 [FloatOps F] (d : Dev nD) (fw : Buf (Elt F) (wLoc d)) (fk : Buf (Elt F) (kLoc d)) : sProp 𝕄 :=
  iprop((xLoc d ↦{fullShare} flat m d) ∗ (wLoc d ↦{fullShare} fw) ∗ kLoc d ↦{fullShare} fk)
/-- Block `i` of the three. -/
abbrev block3 [FloatOps F] (d : Dev nD) (i : Fin 16) (fw : Buf (Elt F) (wLoc d)) (fk : Buf (Elt F) (kLoc d)) : sProp 𝕄 :=
  iprop((xLoc d ↦[pset i]{fullShare} flat m d) ∗ (wLoc d ↦[pset i]{fullShare} fw) ∗ kLoc d ↦[pset i]{fullShare} fk)

variable [FloatOps F]

theorem whole3_blocks (d : Dev nD) (fw : Buf (Elt F) (wLoc d)) (fk : Buf (Elt F) (kLoc d)) :
    (whole3 m d fw fk : sProp 𝕄) = bigSep Finset.univ fun i : Fin 16 => block3 m d i fw fk := by
  unfold whole3 block3
  rw [bigSep_sep', bigSep_sep', x_blocks, w_blocks, k_blocks]

/-- The call takes the flat arrays with the results at their launch contents and brings them back with the results
    computed; each task its block of them. -/
def P : (K (F := F)).Pay (nD := nD) (Val := Elt F) (Name := ℕ) (U := UU) where
  st := fun q d _ => match q with | 0 => whole3 m d (m (wLoc d)) (m (kLoc d))
  dn := fun q d _ => match q with | 0 => whole3 m d (weights d) (ids m d)
  go := fun q d _ i => match q with | 0 => block3 m d (Fin.cast nSub_zero i) (m (wLoc d)) (m (kLoc d))
  td := fun q d _ i => match q with | 0 => block3 m d (Fin.cast nSub_zero i) (weights d) (ids m d)
  x := fun _ _ => iprop(emp)

instance P_storable : (P (F := F) m).IsStorable where
  st q d _ := match q with
    | 0 => (inferInstance : BI.Storable (upEmb : UEmb _ 𝕄) (whole3 m d (m (wLoc d)) (m (kLoc d))))
  dn q d _ := match q with
    | 0 => (inferInstance : BI.Storable (upEmb : UEmb _ 𝕄) (whole3 m d (weights d) (ids m d)))
  go q d _ i := match q with
    | 0 => (inferInstance : BI.Storable (upEmb : UEmb _ 𝕄) (block3 m d (Fin.cast nSub_zero i) (m (wLoc d)) (m (kLoc d))))
  td q d _ i := match q with
    | 0 => (inferInstance : BI.Storable (upEmb : UEmb _ 𝕄) (block3 m d (Fin.cast nSub_zero i) (weights d) (ids m d)))

/-! ## The task -/

section Tile

variable (d : Dev nD) (L : grid0.Coords)

omit [FloatOps F] in
theorem bound_one : grid0.bound 1 = 16 := rfl
/-- The tile's block number. -/
abbrev jL (L : grid0.Coords) : Fin 16 := Fin.cast bound_one (L 1)

omit [FloatOps F] in
/-- The block the kernel cuts is the tile's of the sixteen. -/
theorem blk_eq : blk L = part (jL L) := by
  unfold blk part Rect.part Rect.block
  congr 1 <;> funext a
  · rw [k0_off1_eq]
    match a with
    | 0 => simp [Shape.partIx, Shape.partSize, Nat.mul_comm]
  · match a with
    | 0 => simp [Shape.partSize]

omit [FloatOps F] in
theorem set_xBlk : (xBlk L).view.set = pset (jL L) := by
  show ((View.whole (main_v0_scv : Ref sig .scVector)).slice (blk L)).set = _
  rw [View.set_slice, blk_eq]; exact Finset.map_refl
omit [FloatOps F] in
theorem set_wBlk : (wBlk L).view.set = pset (jL L) := by
  show ((View.whole (main_v1_0_scv : Ref sig .scVector)).slice (blk L)).set = _
  rw [View.set_slice, blk_eq]; exact Finset.map_refl
omit [FloatOps F] in
theorem set_kBlk : (kBlk L).view.set = pset (jL L) := by
  show ((View.whole (main_v1_1_scv : Ref sig .scVector)).slice (blk L)).set = _
  rw [View.set_slice, blk_eq]; exact Finset.map_refl

omit [FloatOps F] in
theorem pts_xBlk (f : Buf (Elt F) (xLoc d)) :
    ((xBlk L).view.loc (VT d L) ↦[(xBlk L).view.set]{fullShare} f : sProp 𝕄) = xLoc d ↦[pset (jL L)]{fullShare} f := by
  rw [set_xBlk]
omit [FloatOps F] in
theorem pts_wBlk (f : Buf (Elt F) (wLoc d)) :
    ((wBlk L).view.loc (VT d L) ↦[(wBlk L).view.set]{fullShare} f : sProp 𝕄) = wLoc d ↦[pset (jL L)]{fullShare} f := by
  rw [set_wBlk]
omit [FloatOps F] in
theorem pts_kBlk (f : Buf (Elt F) (kLoc d)) :
    ((kBlk L).view.loc (VT d L) ↦[(kBlk L).view.set]{fullShare} f : sProp 𝕄) = kLoc d ↦[pset (jL L)]{fullShare} f := by
  rw [set_kBlk]
omit [FloatOps F] in
theorem pts_xB (f : Buf (Elt F) ((VT d L).loc cc0_scratch0)) :
    ((xB).view.loc (VT d L) ↦[(xB).view.set]{fullShare} f : sProp 𝕄) = (VT d L).loc cc0_scratch0 ↦{fullShare} f := by
  rw [View.set_whole]
omit [FloatOps F] in
theorem pts_wB (f : Buf (Elt F) ((VT d L).loc cc0_scratch1)) :
    ((wB).view.loc (VT d L) ↦[(wB).view.set]{fullShare} f : sProp 𝕄) = (VT d L).loc cc0_scratch1 ↦{fullShare} f := by
  rw [View.set_whole]
omit [FloatOps F] in
theorem pts_kB (f : Buf (Elt F) ((VT d L).loc cc0_scratch2)) :
    ((kB).view.loc (VT d L) ↦[(kB).view.set]{fullShare} f : sProp 𝕄) = (VT d L).loc cc0_scratch2 ↦{fullShare} f := by
  rw [View.set_whole]

/-- A block that reads one everywhere is the block of `weights`. -/
theorem wBlk_done (f : Buf (Elt F) (wLoc d)) (hf : ∀ j, (wBlk L).view.read (Elt F) f j = (one : F .f32)) :
    ((wBlk L).view.loc (VT d L) ↦[(wBlk L).view.set]{fullShare} f : sProp 𝕄) = wLoc d ↦[pset (jL L)]{fullShare} weights d := by
  rw [← pts_wBlk d L]
  refine pointsTo_congr fun i hi => ?_
  obtain ⟨x, -, rfl⟩ := Finset.mem_map.mp hi
  exact hf x
/-- A block that reads `idOf` of the input's block is the block of `ids`. -/
theorem kBlk_done (f : Buf (Elt F) (kLoc d))
    (hf : ∀ j, (kBlk L).view.read (Elt F) f j = idOf ((xBlk L).view.read (Elt F) (flat m d) j)) :
    ((kBlk L).view.loc (VT d L) ↦[(kBlk L).view.set]{fullShare} f : sProp 𝕄) = kLoc d ↦[pset (jL L)]{fullShare} ids m d := by
  rw [← pts_kBlk d L]
  refine pointsTo_congr fun i hi => ?_
  obtain ⟨x, -, rfl⟩ := Finset.mem_map.mp hi
  exact hf x

/-- Transfer cell `k` of the tile. -/
abbrev dcell (d : Dev nD) (L : grid0.Coords) (k : Fin 3) : GSem nD τ sig := (VT d L, .dma (⟨k.val, k.isLt⟩ : DmaSem sig))

omit [FloatOps F] in
theorem dcell_mem (k : Fin 3) : dcell d L k ∈ ownCells (VT d L) :=
  mem_ownCells.mpr ⟨rfl, (show ∀ s : DmaSem sig, (SemLoc.dma s : SemLoc sig).isScoped .scVector = true by decide) _⟩

omit [FloatOps F] in
/-- The tile's cells at zero are the three the kernel uses and the rest. -/
theorem ownSems0_V :
    (ownSems0 (VT d L) : sProp 𝕄)
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide, SparseCore.bigSep_insert' (by decide),
    SparseCore.bigSep_insert' (by decide), bigSep_singleton]
  rfl

abbrev sref (L : grid0.Coords) (b : Ref sig .scVector) : DevRef τ sig := (Proc.scVector (cV L) (jV L)).devRef b

omit [FloatOps F] in
theorem sref_ne {b b' : Ref sig .scVector} (h : b ≠ b') : sref L b ≠ sref L b' := fun e => h (Proc.devRef_injective _ e)

omit [FloatOps F] in
/-- The tile's buffers are the three the kernel uses, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase (sref L cc0_scratch0)).erase (sref L cc0_scratch1)).erase
              (sref L cc0_scratch2)) fun b => iprop(∃ f, ((d, b) : Loc nD τ sig) ↦{fullShare} f)) := by
  have h0 : sref L cc0_scratch0 ∈ ownRefs (τ := τ) (.scVector (cV L) (jV L)) := SparseCore.Cfg.mem_ownRefs_of_owner rfl
  have h1 : sref L cc0_scratch1 ∈ ownRefs (τ := τ) (.scVector (cV L) (jV L)) := SparseCore.Cfg.mem_ownRefs_of_owner rfl
  have h2 : sref L cc0_scratch2 ∈ ownRefs (τ := τ) (.scVector (cV L) (jV L)) := SparseCore.Cfg.mem_ownRefs_of_owner rfl
  unfold SparseCore.Cfg.ownBufs
  refine (SparseCore.bigSep_erase' h0).trans ?_
  rw [SparseCore.bigSep_erase' (Finset.mem_erase.mpr ⟨sref_ne L (show (cc0_scratch1 : Ref sig .scVector) ≠ cc0_scratch0 by decide), h1⟩),
    SparseCore.bigSep_erase' (Finset.mem_erase.mpr ⟨sref_ne L (show (cc0_scratch2 : Ref sig .scVector) ≠ cc0_scratch1 by decide),
      Finset.mem_erase.mpr ⟨sref_ne L (show (cc0_scratch2 : Ref sig .scVector) ≠ cc0_scratch0 by decide), h2⟩⟩)]

/-- The task, from what the launch deals its tile to what it hands back. -/
theorem tile_body (hF : (K (F := F)).Facts) (O : CellTallies nD τ sig (HIx 1)) (W : Waits sig (HIx 1)) (hO : ∀ g, O g none = 0) :
    iprop(levAts (K (F := F)).L (K (F := F)).lev ∗ emp
        ∗ block3 m d (jL L) (m (wLoc d)) (m (kLoc d))
        ∗ scopedBufs (VT d L) ∗ scopedSems0 (VT d L) ∗ owes (VT d L) O W)
      ⊢ wp frame (wpE (defs₀ (F := F)) Variants.none (VT d L) none) Set.univ
          (cc0__route L xM (Memref.isWhole_whole _) wM (Memref.isWhole_whole _) kM (Memref.isWhole_whole _)
            xB (Memref.isWhole_whole _) wB (Memref.isWhole_whole _) kB (Memref.isWhole_whole _) cc0_scoped0 cc0_scoped1 cc0_scoped2)
          fun _ => iprop(block3 m d (jL L) (weights d) (ids m d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hw, Hk⟩, ⟨⟨%x0, Hxb⟩, ⟨%w0, Hwb⟩, ⟨%i0, Hkb⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hx := (Entails.of_eq (pts_xBlk (F := F) d L _).symm) $$ Hx
  ihave Hw := (Entails.of_eq (pts_wBlk (F := F) d L _).symm) $$ Hw
  ihave Hk := (Entails.of_eq (pts_kBlk (F := F) d L _).symm) $$ Hk
  ihave Hxb := (Entails.of_eq (pts_xB (F := F) d L _).symm) $$ Hxb
  ihave Hwb := (Entails.of_eq (pts_wB (F := F) d L _).symm) $$ Hwb
  ihave Hkb := (Entails.of_eq (pts_kB (F := F) d L _).symm) $$ Hkb
  iapply (wp_wand_r Idealize.ShloMosaic.frame (wpE (defs₀ (F := F)) Variants.none (VT d L) none) Set.univ)
  isplitl [Hx Hw Hk Hxb Hwb Hkb HC HO]
  · iapply (tile_run d L O W (flat m d) (m (wLoc d)) (m (kLoc d)) x0 w0 i0)
    isplitr; · iexact Hmw
    isplitl [Hx]; · iexact Hx
    isplitl [Hw]; · iexact Hw
    isplitl [Hk]; · iexact Hk
    isplitl [Hxb]; · iexact Hxb
    isplitl [Hwb]; · iexact Hwb
    isplitl [Hkb]; · iexact Hkb
    isplitl [HC]; · iexact HC
    iexact HO
  iintro %_ ⟨Hx, ⟨%fw, %hw, Hw⟩, ⟨%fk, %hk, Hk⟩, ⟨%x1, Hxb⟩, ⟨%w1, Hwb⟩, ⟨%i1, Hkb⟩, HC, ⟨%W', HO⟩⟩
  isplitl [Hx Hw Hk]
  · isplitl [Hx]; · iapply (Entails.of_eq (pts_xBlk (F := F) d L _)); iexact Hx
    isplitl [Hw]; · iapply (Entails.of_eq (wBlk_done (F := F) d L fw hw)); iexact Hw
    iapply (Entails.of_eq (kBlk_done (F := F) m d L fk hk)); iexact Hk
  isplitl [Hxb Hwb Hkb Hbufs]
  · isplitl [Hxb]; · iexists _; iapply (Entails.of_eq (pts_xB (F := F) d L _)); iexact Hxb
    isplitl [Hwb]; · iexists _; iapply (Entails.of_eq (pts_wB (F := F) d L _)); iexact Hwb
    isplitl [Hkb]; · iexists _; iapply (Entails.of_eq (pts_kB (F := F) d L _)); iexact Hkb
    iexact Hbufs
  isplitl [HC Hsems]
  · isplitl [HC] <;> iassumption
  iexists W'; isplitr
  · ipureintro; intro p _
    rcases p.2 with _ | q
    · exact .inr (.inl rfl)
    · exact .inr (.inr (congrArg some (Subsingleton.elim q 0)))
  · iexact HO

/-! ## The launch's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__route (coordsV c s)
          xM (Memref.isWhole_whole _) wM (Memref.isWhole_whole _) kM (Memref.isWhole_whole _)
          xB (Memref.isWhole_whole _) wB (Memref.isWhole_whole _) kB (Memref.isWhole_whole _) cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact tile_body m d (coordsV ⟨_, hci.1⟩ ⟨_, hci.2⟩) hF O W hO

end Tile

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The arrays split into the tasks' blocks, and the blocks the tasks hand back join. -/
theorem vecSplit : (K (F := F)).VecSplit' (P m) 0 := by
  intro d c
  show (whole3 m d (m (wLoc d)) (m (kLoc d)) : sProp 𝕄) ⊢ |={Set.univ}=> iprop(
      (bigSep Finset.univ fun i : Fin ((K (F := F)).nSub 0) => block3 m d (Fin.cast nSub_zero i) (m (wLoc d)) (m (kLoc d)))
      ∗ ((bigSep Finset.univ fun i : Fin ((K (F := F)).nSub 0) => block3 m d (Fin.cast nSub_zero i) (weights d) (ids m d))
          -∗ whole3 m d (weights d) (ids m d)))
  rw [bigSep_tasks (F := F) (fun i => block3 m d i (m (wLoc d)) (m (kLoc d))),
    bigSep_tasks (F := F) (fun i => block3 m d i (weights d) (ids m d)), ← whole3_blocks, ← whole3_blocks]
  iintro H; imodintro
  isplitl [H]; · iexact H
  iintro H; iexact H

/-! ## The launch's ghost state: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev ra : DevRef τ sig := Proc.devRef .tc (main_arg0 : Ref sig .tc)
abbrev rx : DevRef τ sig := Proc.devRef .tc (main_v0 : Ref sig .tc)
abbrev rw' : DevRef τ sig := Proc.devRef .tc (main_v1_0 : Ref sig .tc)
abbrev rk : DevRef τ sig := Proc.devRef .tc (main_v1_1 : Ref sig .tc)
abbrev ro : DevRef τ sig := Proc.devRef .tc (main_v2 : Ref sig .tc)
abbrev rp : DevRef τ sig := Proc.devRef .tc (main_v3 : Ref sig .tc)

/-- The three reshapes. -/
abbrev opX : HloOp τ sig (Elt F) := StableHlo.reshape main_arg0 main_v0 (rfl : (.f32 : EltTy) = .f32) shapeCasts_S32768x1_S32768
abbrev opW : HloOp τ sig (Elt F) := StableHlo.reshape main_v1_0 main_v2 (rfl : (.f32 : EltTy) = .f32) shapeCasts_S32768_S32768x1
abbrev opK : HloOp τ sig (Elt F) := StableHlo.reshape main_v1_1 main_v3 (rfl : (.i32 : EltTy) = .i32) shapeCasts_S32768_S32768x1

/-- A reshape's two arrays, held. -/
abbrev SX : Finset (DevRef τ sig) := {ra, rx}
abbrev SW : Finset (DevRef τ sig) := {rw', ro}
abbrev SK : Finset (DevRef τ sig) := {rk, rp}

/-- The contents each reshape meets: the launch's, but for the flat results, which the call computed. -/
def V0 (d : Dev nD) : Valuation τ sig (Elt F) := fun b => m (d, b)
def V1 (d : Dev nD) : Valuation τ sig (Elt F) := Function.update (Function.update (V0 m d) rw' (weights d)) rk (ids m d)

theorem V1_w (d : Dev nD) : V1 m d rw' = weights d := by
  unfold V1; rw [Function.update_of_ne (show rw' ≠ rk by decide), Function.update_self]
theorem V1_k (d : Dev nD) : V1 m d rk = ids m d := Function.update_self _ _ _
theorem V1_o (d : Dev nD) : V1 m d ro = m (oLoc d) := by
  unfold V1; rw [Function.update_of_ne (show ro ≠ rk by decide), Function.update_of_ne (show ro ≠ rw' by decide)]; rfl
theorem V1_p (d : Dev nD) : V1 m d rp = m (pLoc d) := by
  unfold V1; rw [Function.update_of_ne (show rp ≠ rk by decide), Function.update_of_ne (show rp ≠ rw' by decide)]; rfl

omit [FloatOps F] in
theorem held_pair (d : Dev nD) {b b' : DevRef τ sig} (h : b ≠ b') (W : Valuation τ sig (Elt F)) :
    (held (T d) {b, b'} W : sProp 𝕄) = iprop((((d, b) : Loc nD τ sig) ↦{fullShare} W b) ∗ (((d, b') : Loc nD τ sig) ↦{fullShare} W b')) := by
  unfold held
  rw [SparseCore.bigSep_insert' (by simpa using h), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (wLoc d ↦{fullShare} W main_v1_0)
      ∗ (kLoc d ↦{fullShare} W main_v1_1) ∗ (oLoc d ↦{fullShare} W main_v2) ∗ pLoc d ↦{fullShare} W main_v3) := by
  unfold unscopedBufs
  rw [show (Finset.univ.filter fun b : Ref sig .tc => ¬ b.isScoped) = {main_arg0, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- After the first reshape: the argument as it was, the flat input. -/
theorem held_X (d : Dev nD) : (held (T d) SX ((opX (F := F)).result (V0 m d)) : sProp 𝕄)
    = iprop((aLoc d ↦{fullShare} m (aLoc d)) ∗ xLoc d ↦{fullShare} flat m d) := by
  rw [held_pair d (show ra ≠ rx by decide), StableHlo.reshape_result,
    StableHlo.reshape_result_ne _ _ _ _ _ _ _ (show (main_arg0 : Ref sig .tc) ≠ main_v0 by decide)]
  rfl
/-- After the second: the weights' column. -/
theorem held_W (d : Dev nD) : (held (T d) SW ((opW (F := F)).result (V1 m d)) : sProp 𝕄)
    = iprop((wLoc d ↦{fullShare} weights d) ∗ oLoc d ↦{fullShare} weightsCol d) := by
  rw [held_pair d (show rw' ≠ ro by decide), StableHlo.reshape_result,
    StableHlo.reshape_result_ne _ _ _ _ _ _ _ (show (main_v1_0 : Ref sig .tc) ≠ main_v2 by decide), V1_w]
  rfl
/-- After the third: the ids' column. -/
theorem held_K (d : Dev nD) : (held (T d) SK ((opK (F := F)).result (V1 m d)) : sProp 𝕄)
    = iprop((kLoc d ↦{fullShare} ids m d) ∗ pLoc d ↦{fullShare} idsCol m d) := by
  rw [held_pair d (show rk ≠ rp by decide), StableHlo.reshape_result,
    StableHlo.reshape_result_ne _ _ _ _ _ _ _ (show (main_v1_1 : Ref sig .tc) ≠ main_v3 by decide), V1_k]
  rfl

theorem st0_eq (d : Dev nD) : (bigSep Finset.univ fun c : Fin ((K (F := F)).nCore 0) => (P m).st 0 d c) = whole3 m d (m (wLoc d)) (m (kLoc d)) :=
  bigSep_univ_of_subsingleton (0 : Fin 1)
theorem dn0_eq (d : Dev nD) : (bigSep Finset.univ fun c : Fin ((K (F := F)).nCore 0) => (P m).dn 0 d c) = whole3 m d (weights d) (ids m d) :=
  bigSep_univ_of_subsingleton (0 : Fin 1)

/-- What @main ends holding: the argument unchanged and the two results. -/
abbrev FIN (d : Dev nD) : sProp 𝕄 :=
  iprop((aLoc d ↦{fullShare} m (aLoc d)) ∗ (oLoc d ↦{fullShare} weightsCol d) ∗ pLoc d ↦{fullShare} idsCol m d)

/-- @main on device `d`'s TensorCore: a reshape, the call, two reshapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hw, Hk, Ho, Hp⟩, Hts, -⟩, -⟩
  iapply (wp_hlo_within 𝒱 (SparseCore.T d) none Set.univ (op := opX) (S := SX) (Finset.Subset.refl _) (V := V0 m d)) $$ [Hb Ha Hx]
  · isplitl [Hb]; · iexact Hb
    rw [held_pair d (show ra ≠ rx by decide)]
    isplitl [Ha]; · iexact Ha
    iexact Hx
  iintro ⟨Hb, Hh⟩
  ihave Hh := (Entails.of_eq (held_X (F := F) m d)) $$ Hh
  icases Hh with ⟨Ha, Hx⟩
  rw [wp_ret]; imodintro
  iapply ((K (F := F)).wp_run (D (F := F)) 𝒱 (EH := EH) (P := P m) κ d 0) $$ [Hst Ha Hx Hw Hk Ho Hp Hb Hts]
  isplitr; · iexact Hctx
  isplitl [Hst]; · iexact Hst
  isplitl [Hx Hw Hk]
  · rw [st0_eq]
    isplitl [Hx]; · iexact Hx
    isplitl [Hw]; · iexact Hw
    iexact Hk
  iintro ⟨Hst, Hdn⟩
  ihave Hdn := (Entails.of_eq (dn0_eq m d)) $$ Hdn
  icases Hdn with ⟨Hx, Hw, Hk⟩
  iapply (wp_hlo_within 𝒱 (SparseCore.T d) none Set.univ (op := opW) (S := SW) (Finset.Subset.refl _) (V := V1 m d)) $$ [Hb Hw Ho]
  · isplitl [Hb]; · iexact Hb
    rw [held_pair d (show rw' ≠ ro by decide), V1_w, V1_o]
    isplitl [Hw]; · iexact Hw
    iexact Ho
  iintro ⟨Hb, Hh⟩
  ihave Hh := (Entails.of_eq (held_W (F := F) m d)) $$ Hh
  icases Hh with ⟨Hw, Ho⟩
  rw [wp_ret]; imodintro
  iapply (wp_hlo_within 𝒱 (SparseCore.T d) none Set.univ (op := opK) (S := SK) (Finset.Subset.refl _) (V := V1 m d)) $$ [Hb Hk Hp]
  · isplitl [Hb]; · iexact Hb
    rw [held_pair d (show rk ≠ rp by decide), V1_k, V1_p]
    isplitl [Hk]; · iexact Hk
    iexact Hp
  iintro ⟨Hb, Hh⟩
  ihave Hh := (Entails.of_eq (held_K (F := F) m d)) $$ Hh
  icases Hh with ⟨Hk, Hp⟩
  rw [wp_ret]; imodintro; imodintro
  isplitl [Hst]; · iexact Hst
  isplitl [Ha Ho Hp]
  · isplitl [Ha]; · iexact Ha
    isplitl [Ho]; · iexact Ho
    iexact Hp
  isplitl [Hb] <;> iassumption

/-! ## The program's run -/

/-- What a final state shows on device `d`. -/
def fq (d : Dev nD) (s' : Phys nD τ sig (Elt F)) : Prop :=
  s'.mem.mem (aLoc d) = m (aLoc d) ∧ s'.mem.mem (oLoc d) = weightsCol d ∧ s'.mem.mem (pLoc d) = idsCol m d

omit [FloatOps F] in
/-- Memory agrees with an array held whole, which stays held. -/
theorem agree (ℓ : Loc nD τ sig) (f : Buf (Elt F) ℓ) (s' : Phys nD τ sig (Elt F)) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ho, Hp⟩, HSI⟩
  ihave H := (agree (aLoc d) (m (aLoc d)) s') $$ [HSI Ha]
  · isplitl [HSI] <;> iassumption
  icases H with ⟨%h1, HSI⟩
  ihave H := (agree (oLoc d) (weightsCol d) s') $$ [HSI Ho]
  · isplitl [HSI] <;> iassumption
  icases H with ⟨%h2, HSI⟩
  ihave H := (agree (pLoc d) (idsCol m d) s') $$ [HSI Hp]
  · isplitl [HSI] <;> iassumption
  icases H with ⟨%h3, -⟩
  ipureintro
  exact ⟨h1, h2, h3⟩

/-- The run's post: on every device the argument unchanged and the two results, and every semaphore at zero. -/
def QC : PUnit × MemSt nD τ sig (Elt F) → Prop := fun r =>
  (∀ c : Dev nD, r.2.mem (aLoc c) = m (aLoc c) ∧ r.2.mem (oLoc c) = weightsCol c ∧ r.2.mem (pLoc c) = idsCol m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Route

end
-- ==== Proof.Word.lean ====
/-
  Integer words. The kernel keeps the low six bits of an id; the reference takes the id modulo 64 with the sign of the
  divisor, written as a signed remainder followed by a correction when the remainder is negative. On 32-bit words the two
  agree, for every word.
-/
module

public import Idealize.ShloMosaic.Lib.Affine
public import Idealize.ShloMosaic.Lib.WordArith
public import Idealize.ShloMosaic.PureOps.Float

@[expose] public section

namespace Cert.Proof.Word

open Idealize.ShloMosaic

/-- The word `64` is positive, so the remainder by it is the plain signed remainder. -/
theorem remsi_sixtyfour (u : ArithUnit) (e : BitVec 32) : IntOp.remsi u e 64#32 = e.srem 64#32 :=
  IntOp.remsi_of_pos u (by decide)

/-- The low six bits as a natural number. -/
theorem toNat_low (e : BitVec 32) : (e &&& 63#32).toNat = e.toNat % 64 := by
  rw [BitVec.toNat_and]
  exact Nat.and_two_pow_sub_one_eq_mod e.toNat 6

/-- The low six bits of a word are its signed remainder by 64, with 64 added when that remainder is negative. -/
theorem low_eq (e : BitVec 32) :
    e &&& 63#32 = if (e.srem 64#32).toInt < 0 then e.srem 64#32 + 64#32 else e.srem 64#32 := by
  have hr : (e.srem 64#32).toInt = e.toInt.tmod 64 := by rw [BitVec.toInt_srem]; rfl
  have hm : e.toInt.tmod 64 = if 0 ≤ e.toInt ∨ e.toInt % 64 = 0 then e.toInt % 64 else e.toInt % 64 - 64 := by
    rw [Int.tmod_eq_emod]
    simp only [Int.dvd_iff_emod_eq_zero]
    split_ifs <;> simp
  have he := BitVec.toInt_eq_toNat_cond e
  have hlt := e.isLt
  have hs := BitVec.toInt_eq_toNat_cond (e.srem 64#32)
  have hsl := (e.srem 64#32).isLt
  rw [hm] at hr
  apply BitVec.eq_of_toNat_eq
  rw [toNat_low]
  split_ifs with h
  · rw [BitVec.toNat_add, show (64#32 : BitVec 32).toNat = 64 from rfl]
    split_ifs at he hs hr <;> omega
  · split_ifs at he hs hr <;> omega

/-- The reference's remainder by 64, operation by operation: the signed remainder `r`, and `r + 64` in its place where `r`
    is nonzero and its sign is not the divisor's. -/
def floorMod (e : BitVec 32) : BitVec 32 :=
  Scalar.select
    (IntOp.andi (IntOp.cmpi .ne (IntOp.cmpi .slt (IntOp.remsi .host e 64#32) 0#32) (IntOp.cmpi .slt 64#32 0#32))
      (IntOp.cmpi .ne (IntOp.remsi .host e 64#32) 0#32))
    (IntOp.addi (IntOp.remsi .host e 64#32) 64#32) (IntOp.remsi .host e 64#32)

/-- That remainder is the low six bits. -/
theorem floorMod_eq (e : BitVec 32) : floorMod e = IntOp.andi e 63#32 := by
  show _ = e &&& 63#32
  rw [low_eq, floorMod, remsi_sixtyfour]
  generalize e.srem 64#32 = r
  -- the correction applies exactly where the remainder is negative: a negative word is not zero
  have hc : IntOp.andi (IntOp.cmpi .ne (IntOp.cmpi .slt r 0#32) (IntOp.cmpi .slt 64#32 0#32)) (IntOp.cmpi .ne r 0#32)
      = BitVec.ofBool (decide (r.toInt < 0)) := by
    have h0 : (r != 0#32) = true ∨ r = 0#32 := by
      by_cases h : r = 0#32
      · exact .inr h
      · exact .inl (by simpa using h)
    rcases h0 with h0 | h0
    · simp only [IntOp.cmpi, h0, BitVec.slt_eq_decide, show ((0#32 : BitVec 32).toInt) = 0 from rfl,
        show decide ((64#32 : BitVec 32).toInt < 0) = false from rfl]
      cases decide (r.toInt < 0) <;> rfl
    · subst h0; rfl
  rw [hc]
  by_cases h : r.toInt < 0
  · rw [if_pos h, decide_eq_true h]; rfl
  · rw [if_neg h, decide_eq_false h]; rfl

/-- The id as the kernel picks it — the low bits, then the first mask's 0 over them, then the second mask's 1 over both —
    is the id as the reference picks it — the masks' ids where either holds, the remainder where neither does —, whatever
    the two masks and the word are. -/
theorem pick_eq (a b : BitVec 1) (e : BitVec 32) :
    Scalar.select b 1#32 (Scalar.select a 0#32 (IntOp.andi e 63#32))
      = Scalar.select (~~~ (IntOp.ori a b)) (floorMod e) (Scalar.select b 1#32 (Scalar.select a 0#32 0#32)) := by
  rw [floorMod_eq]
  generalize IntOp.andi e 63#32 = r
  have ha : a = 0#1 ∨ a = 1#1 := by revert a; decide
  have hb : b = 0#1 ∨ b = 1#1 := by revert b; decide
  rcases ha with rfl | rfl <;> rcases hb with rfl | rfl <;> rfl

end Cert.Proof.Word
-- ==== Proof.Value.lean ====
/-
  The reference's two results are the kernel's. The reference's run ends with its own operations' term of the argument;
  read at one row, that term is the weight one and the expert id, the id with the remainder and the guards its way round.
  `idOf` is the kernel's way round, and `Word.pick_eq` equates the two; the rest is which row an index names.
-/
module

public import proofs.«01_k».proof.Proof.Launch
public import proofs.«01_k».proof.Proof.Word
public import proofs.«01_k».proof.Proof.Gen.ReferenceIdeal
public import proofs.«01_k».proof.Proof.Gen.ReferenceIdeal.Run

@[expose] public section

noncomputable section

namespace Cert.Proof.Route

open Idealize.ShloMosaic Idealize.SL.Sem

variable {F : FTy → Type} [FloatOps F]

/-- A column read at a row is the flat array at that row: the two positions are the same. -/
theorem column_apply {α : Type} (g : Cert.ReferenceIdeal.S32768.Idx → α)
    (h : Cert.ReferenceIdeal.S32768.ShapeCasts Cert.ReferenceIdeal.S32768x1) (i : Cert.ReferenceIdeal.S32768x1.Idx) :
    shapeCast Cert.ReferenceIdeal.S32768x1 g h i
      = broadcastInDim Cert.ReferenceIdeal.S32768x1 ![0] Cert.ReferenceIdeal.Gen.bcast_S32768_S32768x1_0 g i := by
  unfold broadcastInDim
  refine shapeCast_apply g h i _ ?_
  rw [Shape.rowMajor_val_one, Shape.rowMajor_val_two]
  have h1 : (i 1).val = 0 := Nat.lt_one_iff.mp (i 1).isLt
  rw [h1]
  simp [Cert.ReferenceIdeal.S32768, Cert.ReferenceIdeal.S32768x1]

/-- The reference's run, its results in the kernel's words: every weight one, every id `idOf` of its row's element. -/
theorem ref_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_v14) = (fun _ => (one : F .f32))
        ∧ r.2.mem ((c.tc : Thread Cert.ReferenceIdeal.nD Cert.ReferenceIdeal.τ).loc Cert.ReferenceIdeal.main_v13)
          = shapeCast Cert.KernelIdeal.S32768x1 (fun j : Cert.KernelIdeal.S32768.Idx =>
              idOf (shapeCast Cert.KernelIdeal.S32768
                (m ((c.tc : Thread Cert.ReferenceIdeal.nD Cert.ReferenceIdeal.τ).loc Cert.ReferenceIdeal.main_arg0))
                Cert.KernelIdeal.Gen.shapeCasts_S32768x1_S32768 j)) Cert.KernelIdeal.Gen.shapeCasts_S32768_S32768x1
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
      ∧ r.2.sem = fun _ => 0 := by
  refine (θ_run Cert.ReferenceIdeal.defs _ _).mono (fun r h => ⟨fun c => ⟨(h c).1.trans ?_, (h c).2.1.trans (funext fun i => ?_), (h c).2.2⟩,
    sem_eq_zero_of_no_sems (by decide) r.2⟩) (Cert.ReferenceIdeal.Value.run m ρ)
  · rfl
  · refine Eq.trans ?_ (column_apply _ _ i).symm
    unfold broadcastInDim
    exact (Word.pick_eq _ _ _).symm

end Cert.Proof.Route

end
-- ==== Proof.lean ====
/-
  The proof of `Cert.Claim` (Defs.lean). Everything is proved once, for any float values, about the idealized texts: the
  kernel's run in Proof/Launch.lean, the reference's in Proof/Value.lean. The other two programs are the same texts, read at
  `Bits`, so each claim below is one of those two runs at one of the two readings.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel, read at `Bits`: it runs, leaves its argument as it was and every semaphore at zero. -/
theorem frame_kernel : Cert.quiescent_Kernel (hKernel := Cert.Kernel.Gen.facts) := fun m g _ =>
  (θ_run Cert.KernelIdeal.defs _ _).mono (fun _ h => ⟨fun c => (h.1 c).1, h.2⟩) (Route.run_main (F := Bits) m g)

/-- The kernel, read at `Ideal`. -/
theorem frame_kernel_ideal : Cert.quiescent_KernelIdeal (hKernelIdeal := Cert.KernelIdeal.Gen.facts) := fun m g _ =>
  (θ_run Cert.KernelIdeal.defs _ _).mono (fun _ h => ⟨fun c => (h.1 c).1, h.2⟩) (Route.run_main (F := Ideal) m g)

/-- The reference, read at `Bits`. -/
theorem frame_reference : Cert.quiescent_Reference (hReference := Cert.Reference.Gen.facts) := fun m g _ =>
  (θ_run Cert.ReferenceIdeal.defs _ _).mono (fun _ h => ⟨fun c => (h.1 c).2.2, h.2⟩) (Route.ref_run (F := Bits) m g)

/-- The reference, read at `Ideal`. -/
theorem frame_reference_ideal : Cert.quiescent_ReferenceIdeal (hReferenceIdeal := Cert.ReferenceIdeal.Gen.facts) := fun m g _ =>
  (θ_run Cert.ReferenceIdeal.defs _ _).mono (fun _ h => ⟨fun c => (h.1 c).2.2, h.2⟩) (Route.ref_run (F := Ideal) m g)

/-- Over the extended reals the two programs end with the same weights and the same ids. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Route.weightsCol c, fun c => Route.idsCol m c,
    (θ_run Cert.KernelIdeal.defs _ _).mono (fun _ h c => ⟨(h.1 c).2.1, (h.1 c).2.2, (h.1 c).1⟩) (Route.run_main (F := Ideal) m g),
    (θ_run Cert.ReferenceIdeal.defs _ _).mono (fun _ h c => ⟨(h.1 c).1, (h.1 c).2.1.trans (by rw [hagree c]; rfl), (h.1 c).2.2⟩)
      (Route.ref_run (F := Ideal) m' g')⟩

/-- On words too, read at `Bits`, they end with the same results bit for bit. -/
theorem bitexact : Cert.bitexact_Kernel_Reference (hKernel := Cert.Kernel.Gen.facts)
    (hReference := Cert.Reference.Gen.facts) := fun m g m' g' _ hagree =>
  ⟨fun c => Route.weightsCol (F := Bits) c, fun c => Route.idsCol (F := Bits) m c,
    (θ_run Cert.KernelIdeal.defs _ _).mono (fun _ h c => ⟨(h.1 c).2.1, (h.1 c).2.2, (h.1 c).1⟩) (Route.run_main (F := Bits) m g),
    (θ_run Cert.ReferenceIdeal.defs _ _).mono (fun _ h c => ⟨(h.1 c).1, (h.1 c).2.1.trans (congrArg
        (fun x : Cert.KernelIdeal.S32768x1.Idx → Bits .f32 => shapeCast Cert.KernelIdeal.S32768x1
          (fun j : Cert.KernelIdeal.S32768.Idx => Route.idOf (shapeCast Cert.KernelIdeal.S32768 x Cert.KernelIdeal.Gen.shapeCasts_S32768x1_S32768 j))
          Cert.KernelIdeal.Gen.shapeCasts_S32768_S32768x1) (hagree c)), (h.1 c).2.2⟩)
      (Route.ref_run (F := Bits) m' g')⟩

theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, algebraic, bitexact⟩

end Cert.Proof

end
